-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_centers [hPre_finite_centers : Cert.Pre_finite_centers.Facts] (m : (ℓ : Loc Cert.KernelIdeal.nD Cert.KernelIdeal.τ Cert.KernelIdeal.sig) → Buf (Elt Ideal) ℓ) : Prop :=
  ∀ c : Dev Cert.KernelIdeal.nD,
    (Cert.Pre_finite_centers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_centers [hPre_finite_centers : Cert.Pre_finite_centers.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_centers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_centers [hKernelIdeal : Cert.KernelIdeal.Facts] [hPre_finite_centers : Cert.Pre_finite_centers.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_centers m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_centers [hReferenceIdeal : Cert.ReferenceIdeal.Facts] [hPre_finite_centers : Cert.Pre_finite_centers.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_centers m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "ln2" .f32 0x3F317218#32 ((Real.log 2 : ℝ) : EReal)
  ∧ IdealRules.named_const.Statement Cert.KernelIdeal.κ "inv_ln2" .f32 0x3FB8AA3B#32 (((Real.log 2)⁻¹ : ℝ) : EReal)

def algebraic_KernelIdeal_ReferenceIdeal_pre_finite_centers [hKernelIdeal : Cert.KernelIdeal.Facts] [hReferenceIdeal : Cert.ReferenceIdeal.Facts] [hPre_finite_centers : Cert.Pre_finite_centers.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_centers m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_centers : Cert.Pre_finite_centers.Facts),
    quiescent_Kernel (hKernel := hKernel)
    ∧ quiescent_KernelIdeal (hKernelIdeal := hKernelIdeal)
    ∧ quiescent_KernelIdeal_pre_finite_centers (hKernelIdeal := hKernelIdeal) (hPre_finite_centers := hPre_finite_centers)
    ∧ quiescent_ReferenceIdeal (hReferenceIdeal := hReferenceIdeal)
    ∧ quiescent_ReferenceIdeal_pre_finite_centers (hReferenceIdeal := hReferenceIdeal) (hPre_finite_centers := hPre_finite_centers)
    ∧ preserves_Kernel_KernelIdeal
    ∧ algebraic_KernelIdeal_ReferenceIdeal_pre_finite_centers (hKernelIdeal := hKernelIdeal) (hReferenceIdeal := hReferenceIdeal) (hPre_finite_centers := hPre_finite_centers)
-- ==== Pre_finite_centers.lean ====
abbrev S16x112x112x64 : Shape := ⟨4, ![16, 112, 112, 64]⟩
abbrev S4 : Shape := ⟨1, ![4]⟩
abbrev S64x8 : Shape := ⟨2, ![64, 8]⟩
abbrev S_ : Shape := ⟨0, ![]⟩

class Facts : Prop where
  bcast_S_S64x8 : S_.BroadcastsInDim S64x8 (![] : Fin 0 → Fin S64x8.rank)
  reducesTo_S64x8_S_d0_1 : S64x8.ReducesTo [0, 1] S_
  h_S_ : 0 < S_.numel

variable [Facts]

def fn {F : FTy → Type} [FloatOps F] (main_arg0 : FVec F S16x112x112x64 .f32) (main_arg1 : FVec F S4 .f32) (main_arg2 : FVec F S64x8 .f32) (main_arg3 : FVec F S64x8 .f32) : IVec S_ 1 :=
  let main_v0 : FVec F S64x8 .f32 := Host.absf main_arg2
  let main_cst : FVec F S_ .f32 := constant S_ .f32 0x7F800000#32
  let main_v1 : FVec F S64x8 .f32 := broadcastInDim S64x8 ![] bcast_S_S64x8 main_cst
  let main_v2 : IVec S64x8 1 := cmpf .olt main_v0 main_v1
  let main_c : IVec S_ 1 := constantI S_ 1 1#1
  let main_v3 : IVec S_ 1 := (fun x v => Host.reduce IntOp.andi x v reducesTo_S64x8_S_d0_1 h_S_) main_v2 main_c
  main_v3
-- ==== Kernel.lean ====
abbrev S16x112x112x64 : Shape := ⟨4, ![16, 112, 112, 64]⟩
abbrev S4 : Shape := ⟨1, ![4]⟩
abbrev S64x8 : Shape := ⟨2, ![64, 8]⟩
abbrev S16x112x64x112 : Shape := ⟨4, ![16, 112, 64, 112]⟩
abbrev S8x64 : Shape := ⟨2, ![8, 64]⟩
abbrev S1x64 : Shape := ⟨2, ![1, 64]⟩
abbrev S7x64 : Shape := ⟨2, ![7, 64]⟩
abbrev S8x64x1 : Shape := ⟨3, ![8, 64, 1]⟩
abbrev S8x64x112 : Shape := ⟨3, ![8, 64, 112]⟩
abbrev S1x112x64x112 : Shape := ⟨4, ![1, 112, 64, 112]⟩
abbrev S112x64x112 : Shape := ⟨3, ![112, 64, 112]⟩
abbrev S112x64x4 : Shape := ⟨3, ![112, 64, 4]⟩
abbrev S112x64x120 : Shape := ⟨3, ![112, 64, 120]⟩
abbrev S1x64x112 : Shape := ⟨3, ![1, 64, 112]⟩
abbrev S114x64x112 : Shape := ⟨3, ![114, 64, 112]⟩
abbrev S1 : Shape := ⟨1, ![1]⟩
abbrev S2x64x112 : Shape := ⟨3, ![2, 64, 112]⟩
abbrev S116x64x112 : Shape := ⟨3, ![116, 64, 112]⟩
abbrev S3x64x112 : Shape := ⟨3, ![3, 64, 112]⟩
abbrev S118x64x112 : Shape := ⟨3, ![118, 64, 112]⟩
abbrev S4x64x112 : Shape := ⟨3, ![4, 64, 112]⟩
abbrev S120x64x112 : Shape := ⟨3, ![120, 64, 112]⟩
abbrev S64x112 : Shape := ⟨2, ![64, 112]⟩

abbrev nBuf : Space → Nat
  | .hbm => 18
  | .vmem => 6
  | .smem => 1
  | _ => 0

abbrev bufTy : (tb : Table) → Fin (tcTables nBuf tb) → BufTy
  | .hbm, ⟨0, _⟩ => ⟨S16x112x112x64, .f32⟩
  | .hbm, ⟨1, _⟩ => ⟨S4, .f32⟩
  | .hbm, ⟨2, _⟩ => ⟨S64x8, .f32⟩
  | .hbm, ⟨3, _⟩ => ⟨S64x8, .f32⟩
  | .hbm, ⟨4, _⟩ => ⟨S16x112x64x112, .f32⟩
  | .hbm, ⟨5, _⟩ => ⟨S8x64, .f32⟩
  | .hbm, ⟨6, _⟩ => ⟨S1x64, .f32⟩
  | .hbm, ⟨7, _⟩ => ⟨S7x64, .f32⟩
  | .hbm, ⟨8, _⟩ => ⟨S7x64, .f32⟩
  | .hbm, ⟨9, _⟩ => ⟨S7x64, .f32⟩
  | .hbm, ⟨10, _⟩ => ⟨S8x64, .f32⟩
  | .hbm, ⟨11, _⟩ => ⟨S8x64x1, .f32⟩
  | .hbm, ⟨12, _⟩ => ⟨S8x64x112, .f32⟩
  | .hbm, ⟨13, _⟩ => ⟨S8x64, .f32⟩
  | .hbm, ⟨14, _⟩ => ⟨S8x64x1, .f32⟩
  | .hbm, ⟨15, _⟩ => ⟨S8x64x112, .f32⟩
  | .hbm, ⟨16, _⟩ => ⟨S16x112x64x112, .f32⟩
  | .hbm, ⟨17, _⟩ => ⟨S16x112x112x64, .f32⟩
  | .local _ .vmem, ⟨0, _⟩ => ⟨S1x112x64x112, .f32⟩
  | .local _ .vmem, ⟨1, _⟩ => ⟨S1x112x64x112, .f32⟩
  | .local _ .vmem, ⟨2, _⟩ => ⟨S8x64x112, .f32⟩
  | .local _ .vmem, ⟨3, _⟩ => ⟨S8x64x112, .f32⟩
  | .local _ .vmem, ⟨4, _⟩ => ⟨S1x112x64x112, .f32⟩
  | .local _ .vmem, ⟨5, _⟩ => ⟨S1x112x64x112, .f32⟩
  | .local _ .smem, ⟨0, _⟩ => ⟨S4, .f32⟩
  | _, _ => ⟨S16x112x112x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x112x64x112 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x64x112 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x64x112 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x112x64x112 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "inv_ln2" => some (((Real.log 2)⁻¹ : ℝ) : EReal)
  | "ln2" => some ((Real.log 2 : ℝ) : EReal)
  | _ => none
-- ==== ReferenceIdeal.lean ====
abbrev S16x112x112x64 : Shape := ⟨4, ![16, 112, 112, 64]⟩
abbrev S4 : Shape := ⟨1, ![4]⟩
abbrev S64x8 : Shape := ⟨2, ![64, 8]⟩
abbrev S_ : Shape := ⟨0, ![]⟩
abbrev S1x16x112x112x64 : Shape := ⟨5, ![1, 16, 112, 112, 64]⟩
abbrev S4x16x112x112x64 : Shape := ⟨5, ![4, 16, 112, 112, 64]⟩
abbrev S16x112x112x64x1 : Shape := ⟨5, ![16, 112, 112, 64, 1]⟩
abbrev S1x1x1x64x8 : Shape := ⟨5, ![1, 1, 1, 64, 8]⟩
abbrev S16x112x112x64x8 : Shape := ⟨5, ![16, 112, 112, 64, 8]⟩

abbrev nBuf : Space → Nat
  | .hbm => 56
  | .vmem => 0
  | .smem => 0
  | _ => 0

abbrev bufTy : (tb : Table) → Fin (tcTables nBuf tb) → BufTy
  | .hbm, ⟨0, _⟩ => ⟨S16x112x112x64, .f32⟩
  | .hbm, ⟨1, _⟩ => ⟨S4, .f32⟩
  | .hbm, ⟨2, _⟩ => ⟨S64x8, .f32⟩
  | .hbm, ⟨3, _⟩ => ⟨S64x8, .f32⟩
  | .hbm, ⟨4, _⟩ => ⟨S16x112x112x64, .f32⟩
  | .hbm, ⟨5, _⟩ => ⟨S_, .f32⟩
  | .hbm, ⟨6, _⟩ => ⟨S16x112x112x64, .f32⟩
  | .hbm, ⟨7, _⟩ => ⟨S16x112x112x64, .f32⟩
  | .hbm, ⟨8, _⟩ => ⟨S_, .f32⟩
  | .hbm, ⟨9, _⟩ => ⟨S_, .f32⟩
  | .hbm, ⟨10, _⟩ => ⟨S16x112x112x64, .f32⟩
  | .hbm, ⟨11, _⟩ => ⟨S16x112x112x64, .f32⟩
  | .hbm, ⟨12, _⟩ => ⟨S_, .f32⟩
  | .hbm, ⟨13, _⟩ => ⟨S_, .f32⟩
  | .hbm, ⟨14, _⟩ => ⟨S16x112x112x64, .f32⟩
  | .hbm, ⟨15, _⟩ => ⟨S16x112x112x64, .f32⟩
  | .hbm, ⟨16, _⟩ => ⟨S_, .f32⟩
  | .hbm, ⟨17, _⟩ => ⟨S_, .f32⟩
  | .hbm, ⟨18, _⟩ => ⟨S16x112x112x64, .f32⟩
  | .hbm, ⟨19, _⟩ => ⟨S16x112x112x64, .f32⟩
  | .hbm, ⟨20, _⟩ => ⟨S_, .f32⟩
  | .hbm, ⟨21, _⟩ => ⟨S_, .f32⟩
  | .hbm, ⟨22, _⟩ => ⟨S16x112x112x64, .f32⟩
  | .hbm, ⟨23, _⟩ => ⟨S16x112x112x64, .f32⟩
  | .hbm, ⟨24, _⟩ => ⟨S1x16x112x112x64, .f32⟩
  | .hbm, ⟨25, _⟩ => ⟨S1x16x112x112x64, .f32⟩
  | .hbm, ⟨26, _⟩ => ⟨S1x16x112x112x64, .f32⟩
  | .hbm, ⟨27, _⟩ => ⟨S1x16x112x112x64, .f32⟩
  | .hbm, ⟨28, _⟩ => ⟨S4x16x112x112x64, .f32⟩
  | .hbm, ⟨29, _⟩ => ⟨S16x112x112x64, .f32⟩
  | .hbm, ⟨30, _⟩ => ⟨S16x112x112x64x1, .f32⟩
  | .hbm, ⟨31, _⟩ => ⟨S1x1x1x64x8, .f32⟩
  | .hbm, ⟨32, _⟩ => ⟨S16x112x112x64x8, .f32⟩
  | .hbm, ⟨33, _⟩ => ⟨S16x112x112x64x8, .f32⟩
  | .hbm, ⟨34, _⟩ => ⟨S16x112x112x64x8, .f32⟩
  | .hbm, ⟨35, _⟩ => ⟨S16x112x112x64x8, .f32⟩
  | .hbm, ⟨36, _⟩ => ⟨S1x1x1x64x8, .f32⟩
  | .hbm, ⟨37, _⟩ => ⟨S16x112x112x64x8, .f32⟩
  | .hbm, ⟨38, _⟩ => ⟨S16x112x112x64x8, .f32⟩
  | .hbm, ⟨39, _⟩ => ⟨S_, .f32⟩
  | .hbm, ⟨40, _⟩ => ⟨S16x112x112x64x8, .f32⟩
  | .hbm, ⟨41, _⟩ => ⟨S16x112x112x64x8, .f32⟩
  | .hbm, ⟨42, _⟩ => ⟨S_, .f32⟩
  | .hbm, ⟨43, _⟩ => ⟨S16x112x112x64x8, .f32⟩
  | .hbm, ⟨44, _⟩ => ⟨S16x112x112x64x8, .f32⟩
  | .hbm, ⟨45, _⟩ => ⟨S_, .f32⟩
  | .hbm, ⟨46, _⟩ => ⟨S16x112x112x64, .f32⟩
  | .hbm, ⟨47, _⟩ => ⟨S16x112x112x64, .f32⟩
  | .hbm, ⟨48, _⟩ => ⟨S16x112x112x64, .f32⟩
  | .hbm, ⟨49, _⟩ => ⟨S_, .f32⟩
  | .hbm, ⟨50, _⟩ => ⟨S16x112x112x64, .f32⟩
  | .hbm, ⟨51, _⟩ => ⟨S16x112x112x64, .f32⟩
  | .hbm, ⟨52, _⟩ => ⟨S_, .f32⟩
  | .hbm, ⟨53, _⟩ => ⟨S16x112x112x64, .f32⟩
  | .hbm, ⟨54, _⟩ => ⟨S16x112x112x64, .f32⟩
  | .hbm, ⟨55, _⟩ => ⟨S16x112x112x64, .f32⟩
  | _, _ => ⟨S16x112x112x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_call0_cst : Ref sig .tc := ⟨.hbm, 42, rfl⟩
abbrev main_call0_v0 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Proof.Windows.lean ====
/-
  Sums over a sliding window of a row of values, the row continued by zeros on both sides. The window may grow from its
  middle outwards, one value on each side at a time, or be summed from one end to the other: both give one sum.
-/
module

public import Mathlib.Algebra.BigOperators.Fin
public import Mathlib.Tactic.Abel

@[expose] public section

namespace Cert.Windows

variable {M : Type*} [AddCommMonoid M] {N : ℕ}

/-- The row `g` with `p` zeros before it, and zeros after it. -/
def zpad (p : ℕ) (g : Fin N → M) (n : ℕ) : M :=
  if _ : n < p then 0 else if h : n - p < N then g ⟨n - p, h⟩ else 0

/-- The sum of the `2 r + 1` values around place `i` of the row `g`. -/
def win (r : ℕ) (g : Fin N → M) (i : ℕ) : M := ∑ d ∈ Finset.range (2 * r + 1), zpad r g (i + d)

/-- Only the distance to the first value of the row matters, not how many zeros stand before it. -/
theorem zpad_congr (g : Fin N → M) {p q n k : ℕ} (h : n + q = k + p) : zpad p g n = zpad q g k := by
  unfold zpad
  by_cases hp : n < p
  · have hk : k < q := by omega
    rw [dif_pos hp, dif_pos hk]
  · have hk : ¬k < q := by omega
    have e : n - p = k - q := by omega
    rw [dif_neg hp, dif_neg hk]
    simp only [e]

/-- A place within the row holds the row's value. -/
theorem zpad_add (p : ℕ) (g : Fin N → M) (i : Fin N) : zpad p g (i + p) = g i := by
  unfold zpad
  rw [dif_neg (by omega), dif_pos (by omega)]
  exact congrArg g (Fin.ext (by simp))

/-- A window of radius zero is the value itself. -/
theorem win_zero (g : Fin N → M) (i : Fin N) : win 0 g i = g i := by
  rw [win, Finset.sum_range_one]
  exact zpad_add 0 g i

/-- The window grown by one value on each side; `p` is any number of zeros that reaches far enough. -/
theorem win_succ (r p : ℕ) (g : Fin N → M) (i : ℕ) (hp : r + 1 ≤ p) :
    win (r + 1) g i = win r g i + zpad p g (p - (r + 1) + i) + zpad p g (p + (r + 1) + i) := by
  rw [win, show 2 * (r + 1) + 1 = (2 * r + 1) + 1 + 1 by omega, Finset.sum_range_succ, Finset.sum_range_succ', win,
    zpad_congr g (q := p) (k := p - (r + 1) + i) (by omega : i + 0 + p = p - (r + 1) + i + (r + 1)),
    zpad_congr g (q := p) (k := p + (r + 1) + i) (by omega : i + (2 * r + 1 + 1) + p = p + (r + 1) + i + (r + 1)),
    Finset.sum_congr rfl fun d _ => zpad_congr g (by omega : i + (d + 1) + r = i + d + (r + 1))]

/-- A window of radius four, grown from its middle outwards. -/
theorem win_four (g : Fin N → M) (i : Fin N) :
    win 4 g i = g i + zpad 4 g (3 + i) + zpad 4 g (5 + i) + zpad 4 g (2 + i) + zpad 4 g (6 + i)
      + zpad 4 g (1 + i) + zpad 4 g (7 + i) + zpad 4 g (0 + i) + zpad 4 g (8 + i) := by
  rw [win_succ 3 4 _ _ (by omega), win_succ 2 4 _ _ (by omega), win_succ 1 4 _ _ (by omega), win_succ 0 4 _ _ (by omega),
    win_zero]

/-- A window over two directions, one after the other, is the sum over the square. -/
theorem win_win {K : ℕ} (r : ℕ) (f : Fin N → Fin K → M) (i j : ℕ) :
    win r (fun i' => win r (f i') j) i
      = ∑ a ∈ Finset.range (2 * r + 1), ∑ b ∈ Finset.range (2 * r + 1), zpad r (fun i' => zpad r (f i') (j + b)) (i + a) := by
  refine Finset.sum_congr rfl fun a _ => ?_
  simp only [win, zpad]
  split_ifs
  · simp
  · rfl
  · simp

end Cert.Windows

end
-- ==== Proof.Formula.lean ====
/-
  The recalibration of one channel of one image, as a formula over the extended reals: `f` is the channel, a picture of 112
  rows and 112 columns, `s` the four weights, `c` and `w` the channel's eight centers and widths.
-/
module

public import proofs.«01_k».proof.Proof.Windows
public import Idealize.ShloMosaic.PureOps.Ideal

@[expose] public section

noncomputable section

namespace Cert.Formula

open Idealize.ShloMosaic Cert.Windows

/-- The local measure of a value: its size and the small constant that keeps it from zero. -/
def mass (x : EReal) : EReal := max x (-x) + Ideal.ofBits .f32 0x358637BD#32

/-- The measures of the square of radius `r` around row `i` and column `j`, added up; outside the picture stand zeros. -/
def box (f : Fin 112 → Fin 112 → EReal) (r : ℕ) (i j : Fin 112) : EReal :=
  win r (fun i' => win r (fun j' => mass (f i' j')) j) i

/-- The strength of a place: the four weights times the logarithms of the four box sums, added up. -/
def strength (f : Fin 112 → Fin 112 → EReal) (s : Fin 4 → EReal) (i j : Fin 112) : EReal :=
  ∑ r : Fin 4, s r * Ideal.log (box f (r + 1) i j)

/-- The sum of the memberships of a strength `α` in the eight anchors. -/
def counts (α : EReal) (c w : Fin 8 → EReal) : EReal := ∑ k : Fin 8, max (1 - w k * ((α - c k) * (α - c k))) 0

/-- The recalibrated value at row `i` and column `j`: the value and the logistic function of its soft count. -/
def recal (f : Fin 112 → Fin 112 → EReal) (s : Fin 4 → EReal) (c w : Fin 8 → EReal) (i j : Fin 112) : EReal :=
  f i j + Ideal.div 1 (1 + Ideal.exp (-counts (strength f s i j) c w))

end Cert.Formula

end
-- ==== Proof.Consts.lean ====
/-
  The float constant of the programs whose value the proof needs, as the real number that its word denotes.
-/
module

public import Idealize.ShloMosaic.PureOps.Ideal

@[expose] public section

noncomputable section

namespace Cert.Consts

open Idealize.ShloMosaic

/-- `8.0`, the number of anchors, denotes the real number eight. -/
theorem ofBits_eight : Ideal.ofBits .f32 0x41000000#32 = ((8 : ℝ) : EReal) := by
  simp [Ideal.ofBits, Ideal.ieee, -EReal.coe_mul]; norm_num

end Cert.Consts

end
-- ==== Proof.Scalars.lean ====
/-
  The scalar equations of the soft histogram on the extended reals: a membership cut at one from above against a
  membership cut at zero from below, the differences of the centers added up again, and the natural logarithm taken as a
  logarithm to base two and scaled back.
-/
module

public import Mathlib.Data.EReal.Operations
public import Mathlib.Data.EReal.Inv
public import Mathlib.Analysis.SpecialFunctions.Log.Basic

@[expose] public section

noncomputable section

namespace Cert.Scalars

/-- Cutting a distance at one from above is one less the membership cut at zero from below. -/
theorem min_one_eq (t : EReal) : min t 1 = 1 - max (1 - t) 0 := by
  induction t with
  | bot => rw [← EReal.coe_one, EReal.coe_sub_bot]; simp
  | top => simp
  | coe t =>
    rcases le_total t 1 with h | h
    · rw [min_eq_left (by exact_mod_cast h), max_eq_left (by exact_mod_cast sub_nonneg.2 h)]
      norm_cast
      ring
    · rw [min_eq_right (by exact_mod_cast h), max_eq_right (by exact_mod_cast sub_nonpos.2 h)]
      simp

/-- Two differences from real numbers add up to the difference of the sums, where nothing taken away is `-∞`. -/
theorem sub_add_sub (a b : ℝ) {x y : EReal} (hx : 0 ≤ x) (hy : 0 ≤ y) :
    ((a : EReal) - x) + ((b : EReal) - y) = ((a + b : ℝ) : EReal) - (x + y) := by
  induction x with
  | bot => simp at hx
  | top => rw [EReal.top_add_of_ne_bot (by rintro rfl; simp at hy)]; simp
  | coe x =>
    induction y with
    | bot => simp at hy
    | top => simp
    | coe y =>
      norm_cast
      ring

/-- What is left of a real number less a nonnegative one, when the real number is taken away again. -/
theorem sub_sub_self (a : ℝ) {x : EReal} (hx : 0 ≤ x) : ((a : EReal) - x) - (a : EReal) = -x := by
  induction x with
  | bot => simp at hx
  | top => simp
  | coe x => norm_cast; ring

/-- A partial sum of cut distances over the first `n + 1` anchors, in the order in which they are added. -/
def cutSum (t : ℕ → EReal) : ℕ → EReal
  | 0 => min (t 0) 1
  | n + 1 => cutSum t n + min (t (n + 1)) 1

/-- The partial sum of cut distances is the number of anchors less the sum of the memberships. -/
theorem cutSum_eq (t : ℕ → EReal) (n : ℕ) :
    cutSum t n = (((n + 1 : ℕ) : ℝ) : EReal) - ∑ k ∈ Finset.range (n + 1), max (1 - t k) 0 := by
  induction n with
  | zero => simpa [cutSum] using min_one_eq (t 0)
  | succ n ih =>
    rw [cutSum, ih, min_one_eq, ← EReal.coe_one,
      sub_add_sub _ _ (Finset.sum_nonneg fun _ _ => le_max_right _ _) (le_max_right _ _), Finset.sum_range_succ _ (n + 1)]
    push_cast
    rfl

/-- The sum of the cut distances less the number of anchors is the negated sum of the memberships. -/
theorem cutSum_sub (t : ℕ → EReal) (n : ℕ) :
    cutSum t n - (((n + 1 : ℕ) : ℝ) : EReal) = -∑ k : Fin (n + 1), max (1 - t k) 0 := by
  rw [cutSum_eq, sub_sub_self _ (Finset.sum_nonneg fun _ _ => le_max_right _ _), Finset.sum_range]

/-- What is left of `α` when `d 0`, `d 1`, … are taken away in turn. -/
def walk (α : EReal) (d : ℕ → EReal) : ℕ → EReal
  | 0 => α - d 0
  | n + 1 => walk α d n - d (n + 1)

/-- Where the centers `c` are real numbers, taking away the first center and then the differences of neighbours in turn
    ends at the distance to the center itself. -/
theorem walk_eq (α : EReal) (c d : ℕ → EReal) (n : ℕ) (hc : ∀ k ≤ n, ∃ r : ℝ, c k = r) (h0 : d 0 = c 0)
    (hd : ∀ k < n, d (k + 1) = c (k + 1) - c k) : walk α d n = α - c n := by
  induction n with
  | zero => rw [walk, h0]
  | succ n ih =>
    obtain ⟨a, ha⟩ := hc n (by omega)
    obtain ⟨b, hb⟩ := hc (n + 1) le_rfl
    rw [walk, ih (fun k hk => hc k (by omega)) fun k hk => hd k (by omega), hd n (by omega), ha, hb]
    induction α with
    | bot => simp
    | top => norm_cast
    | coe α => norm_cast; ring

/-- A logarithm to base two, scaled back by the logarithm of two that the weight carries, is the natural logarithm. -/
theorem scale_log (s L : EReal) :
    (s * ((Real.log 2 : ℝ) : EReal)) * (L * (((Real.log 2)⁻¹ : ℝ) : EReal)) = s * L := by
  have h : ((Real.log 2 : ℝ) : EReal) * (((Real.log 2)⁻¹ : ℝ) : EReal) = 1 := by
    rw [← EReal.coe_mul, mul_inv_cancel₀ (Real.log_pos (by norm_num)).ne', EReal.coe_one]
  rw [mul_mul_mul_comm, h, mul_one]

end Cert.Scalars

end
-- ==== Proof.Block.lean ====
/-
  What one grid point of the kernel computes of the block it has loaded, at one row `i`, channel `c` and column `w`:
  the box sums of the four radii, the strength that their logarithms add up to, and the soft histogram of it.
-/
module

public import proofs.«01_k».proof.Proof.Gen.KernelIdeal.Skeleton
public import proofs.«01_k».proof.Proof.Formula
public import proofs.«01_k».proof.Proof.Consts
public import proofs.«01_k».proof.Proof.Scalars
public import Idealize.ShloMosaic.Lib.Pointwise

@[expose] public section

set_option maxRecDepth 16384

noncomputable section

namespace Cert.KernelIdeal.Block

open Idealize.ShloMosaic Idealize.ShloMosaic.TcCoe Idealize.SL.Sem
open Cert.KernelIdeal Cert.KernelIdeal.Gen Cert.Windows Cert.Scalars Cert.Formula

/-- The picture of channel `c` in a loaded block. -/
abbrev pic (X : FVec Ideal S1x112x64x112 .f32) (c : Fin 64) : Fin 112 → Fin 112 → EReal := fun i j => X (ix4 0 i c j)

/-! ## The box sums -/

/-- The measure of the loaded block at one place. -/
theorem pay3_at (X : FVec Ideal S1x112x64x112 .f32) (i : Fin 112) (c : Fin 64) (w : Fin 112) :
    k0_pay3 (F := Ideal) X (ix3 i c w) = mass (X (ix4 0 i c w)) := by
  pointwise [k0_pay3, k0_pay2, mass]
  rfl

/-- The measure with four zero columns on either side. -/
theorem pay4_at (X : FVec Ideal S1x112x64x112 .f32) (i : Fin 112) (c : Fin 64) (w : Fin 120) :
    k0_pay4 (F := Ideal) X (ix3 i c w) = zpad 4 (fun j : Fin 112 => k0_pay3 (F := Ideal) X (ix3 i c j)) w := by
  pointwise [k0_pay4, zpad]

/-- The row sums of radius one. -/
theorem pay5_at (X : FVec Ideal S1x112x64x112 .f32) (i : Fin 112) (c : Fin 64) (w : Fin 112) :
    k0_pay5 (F := Ideal) X (ix3 i c w) = win 1 (fun j : Fin 112 => k0_pay3 (F := Ideal) X (ix3 i c j)) w := by
  pointwise [k0_pay5]
  rw [pay4_at, pay4_at, win_succ 0 4 _ _ (by omega), win_zero]

/-- The row sums of radius two. -/
theorem pay7_at (X : FVec Ideal S1x112x64x112 .f32) (i : Fin 112) (c : Fin 64) (w : Fin 112) :
    k0_pay7 (F := Ideal) X (ix3 i c w) = win 2 (fun j : Fin 112 => k0_pay3 (F := Ideal) X (ix3 i c j)) w := by
  pointwise [k0_pay7]
  rw [pay4_at, pay4_at, pay5_at, win_succ 1 4 _ _ (by omega)]

/-- The row sums of radius three. -/
theorem pay11_at (X : FVec Ideal S1x112x64x112 .f32) (i : Fin 112) (c : Fin 64) (w : Fin 112) :
    k0_pay11 (F := Ideal) (k0_pay4 X) (k0_pay7 X) (ix3 i c w)
      = win 3 (fun j : Fin 112 => k0_pay3 (F := Ideal) X (ix3 i c j)) w := by
  pointwise [k0_pay11]
  rw [pay4_at, pay4_at, pay7_at, win_succ 2 4 _ _ (by omega)]

/-- The first term of the strength: the box of radius one. -/
theorem pay6_at (X : FVec Ideal S1x112x64x112 .f32) (s : EReal) (i : Fin 112) (c : Fin 64) (w : Fin 112) :
    k0_pay6 (F := Ideal) X s (ix3 i c w)
      = 0 + (s * Named.named (F := Ideal) κ "ln2" (φ := .f32) 0x3F317218#32)
          * (Ideal.log (box (pic X c) 1 i w) * Named.named (F := Ideal) κ "inv_ln2" (φ := .f32) 0x3FB8AA3B#32) := by
  pointwise [k0_pay6]
  simp only [box, ← pay3_at]
  simp only [← pay5_at]
  rw [win_succ 0 1 _ _ (by omega), win_zero]
  simp only [zpad, Nat.reduceAdd, Nat.reduceSub, zero_add]

/-- The logarithm of the box of radius two. -/
theorem pay9_at (X : FVec Ideal S1x112x64x112 .f32) (i : Fin 112) (c : Fin 64) (w : Fin 112) :
    k0_pay9 (F := Ideal) X (ix3 i c w) = Ideal.log (box (pic X c) 2 i w) := by
  pointwise [k0_pay9]
  simp only [box, ← pay3_at]
  simp only [← pay7_at]
  rw [win_succ 1 2 _ _ (by omega), win_succ 0 2 _ _ (by omega), win_zero]
  simp only [zpad, Nat.reduceAdd, Nat.reduceSub, zero_add]

/-- The box of radius three. -/
theorem box_three (X : FVec Ideal S1x112x64x112 .f32) (i : Fin 112) (c : Fin 64) (w : Fin 112) :
    box (pic X c) 3 i w = win 3 (fun i' : Fin 112 => k0_pay11 (F := Ideal) (k0_pay4 X) (k0_pay7 X) (ix3 i' c w)) i := by
  simp only [box, ← pay3_at]
  simp only [← pay11_at]

/-- The strength after the boxes of radius one, two and three: `A` and `s₁`, `L₁` are what stands for the first two. -/
theorem pay12_at (X : FVec Ideal S1x112x64x112 .f32) (A : FVec Ideal S112x64x112 .f32) (s₁ s₂ : EReal)
    (L₁ B : FVec Ideal S112x64x112 .f32) (i : Fin 112) (c : Fin 64) (w : Fin 112) :
    k0_pay12 (F := Ideal) (k0_pay4 X) A (k0_pay7 X) s₁ L₁ B s₂ (ix3 i c w)
      = A (ix3 i c w) + s₁ * (L₁ (ix3 i c w) * B (ix3 i c w))
        + (s₂ * Named.named (F := Ideal) κ "ln2" (φ := .f32) 0x3F317218#32)
          * (Ideal.log (box (pic X c) 3 i w) * Named.named (F := Ideal) κ "inv_ln2" (φ := .f32) 0x3FB8AA3B#32) := by
  pointwise [k0_pay12]
  rw [box_three, win_succ 2 3 _ _ (by omega), win_succ 1 3 _ _ (by omega), win_succ 0 3 _ _ (by omega), win_zero]
  simp only [zpad, Nat.reduceAdd, Nat.reduceSub, zero_add]

/-- The box of radius four. -/
theorem pay13_at (X : FVec Ideal S1x112x64x112 .f32) (i : Fin 112) (c : Fin 64) (w : Fin 112) :
    k0_pay13 (F := Ideal) (k0_pay4 X) (k0_pay7 X) (ix3 i c w) = box (pic X c) 4 i w := by
  have hin (i' : Fin 112) := win_succ 3 4 (fun j : Fin 112 => k0_pay3 (F := Ideal) X (ix3 i' c j)) w (by omega)
  pointwise [k0_pay13]
  simp only [box, ← pay3_at, pay4_at, pay11_at]
  rw [show (fun i' : Fin 112 => win 4 (fun j : Fin 112 => k0_pay3 (F := Ideal) X (ix3 i' c j)) w) = _ from funext hin,
    win_four]
  simp only [zpad, Nat.reduceAdd, Nat.reduceSub, zero_add]

/-! ## The strength and the soft histogram -/

/-- The kernel's constant `ln2` is the logarithm of two. -/
theorem ln2 : Named.named (F := Ideal) κ "ln2" (φ := .f32) 0x3F317218#32 = ((Real.log 2 : ℝ) : EReal) :=
  IdealRules.named_const.ideal_named_scalar _ _ _ _ rfl

/-- The kernel's constant `inv_ln2` is one over the logarithm of two. -/
theorem inv_ln2 : Named.named (F := Ideal) κ "inv_ln2" (φ := .f32) 0x3FB8AA3B#32 = (((Real.log 2)⁻¹ : ℝ) : EReal) :=
  IdealRules.named_const.ideal_named_scalar _ _ _ _ rfl

/-- The strength less the first center. -/
theorem pay14_at (X : FVec Ideal S1x112x64x112 .f32) (s : Fin 4 → EReal) (D : FVec Ideal S1x64x112 .f32)
    (i : Fin 112) (c : Fin 64) (w : Fin 112) :
    k0_pay14 (F := Ideal)
        (k0_pay12 (k0_pay4 X) (k0_pay6 X (s 0)) (k0_pay7 X) (k0_pay8 (s 1)) (k0_pay9 X) k0_pay10 (s 2))
        (k0_pay13 (k0_pay4 X) (k0_pay7 X)) (s 3) (Named.named κ "ln2" 0x3F317218#32) D (ix3 i c w)
      = strength (pic X c) s i w - D (ix3 0 c w) := by
  pointwise [k0_pay14]
  rw [pay12_at, pay13_at, pay6_at, pay9_at]
  simp only [k0_pay8, k0_pay10, broadcast, Ideal.scalar_mulf_def, ln2, inv_ln2, scale_log, zero_add, strength,
    Fin.sum_univ_four]
  rfl

/-- What a grid point stores at row `i`, channel `c`, column `w`, of the loaded block `X`, the four loaded weights `s0` to
    `s3` (the numbers `s`), the eight loaded rows of center differences `D0` to `D7` (the numbers `δ` at the channel) and
    the eight loaded rows of widths `W0` to `W7` (the numbers `ω` at the channel). -/
theorem block_at (X : FVec Ideal S1x112x64x112 .f32) (s : Fin 4 → EReal) (δ ω : ℕ → EReal)
    (i : Fin 112) (c : Fin 64) (w : Fin 112) {s0 s1 s2 s3 : EReal}
    {D0 D1 D2 D3 D4 D5 D6 D7 W0 W1 W2 W3 W4 W5 W6 W7 : FVec Ideal S1x64x112 .f32}
    (hs0 : s0 = s 0) (hs1 : s1 = s 1) (hs2 : s2 = s 2) (hs3 : s3 = s 3)
    (hD0 : D0 (ix3 0 c w) = δ 0) (hD1 : D1 (ix3 0 c w) = δ 1) (hD2 : D2 (ix3 0 c w) = δ 2) (hD3 : D3 (ix3 0 c w) = δ 3)
    (hD4 : D4 (ix3 0 c w) = δ 4) (hD5 : D5 (ix3 0 c w) = δ 5) (hD6 : D6 (ix3 0 c w) = δ 6) (hD7 : D7 (ix3 0 c w) = δ 7)
    (hW0 : W0 (ix3 0 c w) = ω 0) (hW1 : W1 (ix3 0 c w) = ω 1) (hW2 : W2 (ix3 0 c w) = ω 2) (hW3 : W3 (ix3 0 c w) = ω 3)
    (hW4 : W4 (ix3 0 c w) = ω 4) (hW5 : W5 (ix3 0 c w) = ω 5) (hW6 : W6 (ix3 0 c w) = ω 6) (hW7 : W7 (ix3 0 c w) = ω 7) :
    k0_pay1 (F := Ideal) (k0_pay2 X)
        (k0_pay22
          (k0_pay20
            (k0_pay16
              (k0_pay12 (k0_pay4 X) (k0_pay6 X s0) (k0_pay7 X) (k0_pay8 s1) (k0_pay9 X) k0_pay10 s2)
              (k0_pay13 (k0_pay4 X) (k0_pay7 X)) s3 (Named.named κ "ln2" 0x3F317218#32) D0 W0 D1 W1)
            (k0_pay17
              (k0_pay12 (k0_pay4 X) (k0_pay6 X s0) (k0_pay7 X) (k0_pay8 s1) (k0_pay9 X) k0_pay10 s2)
              (k0_pay13 (k0_pay4 X) (k0_pay7 X)) s3 (Named.named κ "ln2" 0x3F317218#32) D0 D1 D2)
            W2 D3 W3 D4 W4)
          (k0_pay21
            (k0_pay17
              (k0_pay12 (k0_pay4 X) (k0_pay6 X s0) (k0_pay7 X) (k0_pay8 s1) (k0_pay9 X) k0_pay10 s2)
              (k0_pay13 (k0_pay4 X) (k0_pay7 X)) s3 (Named.named κ "ln2" 0x3F317218#32) D0 D1 D2)
            D3 D4 D5)
          W5 D6 W6 D7 W7)
        (FloatOps.ofBits .f32 0x3F800000#32) (ix4 0 i c w)
      = X (ix4 0 i c w) + Ideal.div 1 (1 + Ideal.exp (cutSum (fun k => ω k *
          (walk (strength (pic X c) s i w) δ k * walk (strength (pic X c) s i w) δ k)) 7 - ((8 : ℝ) : EReal))) := by
  subst hs0 hs1 hs2 hs3
  have h0 := (pay14_at X s D0 i c w).trans (congrArg _ hD0)
  pointwise [k0_pay1, k0_pay2, k0_pay22, k0_pay20, k0_pay16, k0_pay17, k0_pay21, k0_pay18, k0_pay19, k0_pay15]
  rw [h0, Consts.ofBits_eight, hD1, hD2, hD3, hD4, hD5, hD6, hD7, hW0, hW1, hW2, hW3, hW4, hW5, hW6, hW7]
  rfl

end Cert.KernelIdeal.Block

end
-- ==== Proof.Array.lean ====
/-
  What the kernel's result array holds after the run.
-/
module

public import proofs.«01_k».proof.Proof.Gen.KernelIdeal.Frame
public import proofs.«01_k».proof.Proof.Block
public import Idealize.ShloMosaic.Lib.Pipeline.ValueKit

@[expose] public section

set_option maxRecDepth 16384

noncomputable section

namespace Cert.KernelIdeal.Array

open Idealize.ShloMosaic Idealize.ShloMosaic.TcCoe Idealize.SL.Sem
open Cert.KernelIdeal Cert.KernelIdeal.Gen Cert.Scalars Cert.Formula Cert.KernelIdeal.Block

variable (m : (ℓ : Loc nD τ sig) → Buf (Elt Ideal) ℓ)

/-- The pictures, by image, row, column and channel. -/
abbrev X (c : Dev nD) : FVec Ideal S16x112x112x64 .f32 := m ((c : Thread nD τ).loc main_arg0)
/-- The four weights of the scales. -/
abbrev S (c : Dev nD) : FVec Ideal S4 .f32 := m ((c : Thread nD τ).loc main_arg1)
/-- The centers, by channel and anchor. -/
abbrev C (c : Dev nD) : FVec Ideal S64x8 .f32 := m ((c : Thread nD τ).loc main_arg2)
/-- The widths, by channel and anchor. -/
abbrev W (c : Dev nD) : FVec Ideal S64x8 .f32 := m ((c : Thread nD τ).loc main_arg3)

/-- The windows' index maps: the pictures go by one image a point, the others stand still. -/
theorem idx : ∀ t : Fin cfg0.N, win0_0.index t = ![0] ∧ win0_1.index t = ![t.val, 0, 0, 0] ∧ win0_2.index t = ![0, 0, 0]
    ∧ win0_3.index t = ![0, 0, 0] ∧ win0_4.index t = ![t.val, 0, 0, 0] :=
  (by decide +kernel : ∀ t : Fin grid0.N, _)

/-- The region finds each picture with its channels before its columns. -/
theorem pictures (c : Dev nD) (b : Fin 16) (i : Fin 112) (a : Fin 64) (w : Fin 112) :
    V m c main_v0 (ix4 b i a w) = X m c (ix4 b i w a) := by
  simp only [V, V0, hostOps0, hostOps0_1, hostOps0_2, List.flatten_cons, List.flatten_nil, List.cons_append, List.nil_append,
    StableHlo.TRef.binary, StableHlo.TRef.unary, StableHlo.TRef.toBuf, StableHlo.TRef.ofBuf, cast_eq]
  after_results_simp
  pointwise

/-- The region finds the widths by anchor, one row for each, repeated along the columns. -/
theorem widths (c : Dev nD) (k : Fin 8) (a : Fin 64) (w : Fin 112) :
    V m c main_v9 (ix3 k a w) = W m c (ix2 a k) := by
  simp only [V, V0, hostOps0, hostOps0_1, hostOps0_2, List.flatten_cons, List.flatten_nil, List.cons_append, List.nil_append,
    StableHlo.TRef.binary, StableHlo.TRef.unary, StableHlo.TRef.toBuf, StableHlo.TRef.ofBuf, cast_eq]
  after_results_simp
  pointwise

/-- The region finds the first center and then the difference of each center from the one before it. -/
theorem centers (c : Dev nD) (k : Fin 8) (a : Fin 64) (w : Fin 112) :
    V m c main_v6 (ix3 k a w) = if _ : (k : ℕ) < 1 then C m c (ix2 a k)
        else (C m c (ix2 a k) - C m c (ix2 a ⟨(k : ℕ) - 1, by omega⟩) : EReal) := by
  simp only [V, V0, hostOps0, hostOps0_1, hostOps0_2, List.flatten_cons, List.flatten_nil, List.cons_append, List.nil_append,
    StableHlo.TRef.binary, StableHlo.TRef.unary, StableHlo.TRef.toBuf, StableHlo.TRef.ofBuf, cast_eq]
  after_results_simp
  pointwise
  split
  · after_results_simp
    pointwise
  · have hk : (⟨1 + ((k : ℕ) - 1), by omega⟩ : Fin 8) = k := Fin.ext (by simp only; omega)
    after_results_simp
    pointwise
    rw [hk]

/-- The walk along the center differences reaches the strength less each center, so the cut terms sum to minus the count. -/
theorem steps (c : Dev nD) (hC : ∀ a k, ∃ r : ℝ, C m c (ix2 a k) = r) (α : EReal) (a : Fin 64) (w : Fin 112) :
    cutSum (fun k => W m c (ix2 a (Fin.ofNat 8 k)) *
        (walk α (fun k => V m c main_v6 (ix3 (Fin.ofNat 8 k) a w)) k *
          walk α (fun k => V m c main_v6 (ix3 (Fin.ofNat 8 k) a w)) k)) 7 - ((8 : ℝ) : EReal)
      = -counts α (fun k => C m c (ix2 a k)) (fun k => W m c (ix2 a k)) := by
  have hwalk (n : ℕ) (hn : n ≤ 7) : walk α (fun k => V m c main_v6 (ix3 (Fin.ofNat 8 k) a w)) n
      = α - C m c (ix2 a (Fin.ofNat 8 n)) := by
    refine walk_eq α (fun k => C m c (ix2 a (Fin.ofNat 8 k))) _ n (fun k _ => hC a _) ?_ fun k hk => ?_
    · rw [centers, dif_pos (by decide)]
    · have hv : ((Fin.ofNat 8 (k + 1) : Fin 8) : ℕ) = k + 1 := Nat.mod_eq_of_lt (by omega)
      rw [centers, dif_neg (by omega)]
      have hp : (⟨((Fin.ofNat 8 (k + 1) : Fin 8) : ℕ) - 1, by omega⟩ : Fin 8) = Fin.ofNat 8 k :=
        Fin.ext (by change ((Fin.ofNat 8 (k + 1) : Fin 8) : ℕ) - 1 = k % 8; omega)
      rw [hp]
  rw [show ((8 : ℝ) : EReal) = (((7 + 1 : ℕ) : ℝ) : EReal) by norm_num, cutSum_sub]
  refine congrArg _ (Finset.sum_congr rfl fun k _ => ?_)
  have hk : Fin.ofNat 8 (k : ℕ) = k := Fin.ext (Nat.mod_eq_of_lt k.isLt)
  rw [hwalk k (by omega), hk]

/-- What the windows' output array ends with: at image `b`, row `i`, channel `a`, column `w` the recalibrated value of the
    channel's picture. -/
def out (c : Dev nD) : FVec Ideal S16x112x64x112 .f32 := fun y =>
  recal (fun i j => X m c (ix4 (y 0) i j (y 2))) (fun r => S m c (ix1 r)) (fun k => C m c (ix2 (y 2) k))
    (fun k => W m c (ix2 (y 2) k)) (y 1) (y 3)

/-- At every grid point the first window's block is the four weights. -/
theorem block_weights (c : Dev nD) (t : Fin cfg0.N) (r : Fin 4) : iblk m c 0 t (ix1 r) = S m c (ix1 r) := by
  obtain ⟨h0, h1, h2, h3, h4⟩ := idx t
  blk_point [iblk, V, h0]

/-- At grid point `t` the second window's block is image `t`. -/
theorem block_pictures (c : Dev nD) (t : Fin cfg0.N) (i : Fin 112) (a : Fin 64) (w : Fin 112) :
    iblk m c 1 t (ix4 0 i a w) = V m c main_v0 (ix4 ⟨t.val, t.isLt⟩ i a w) := by
  obtain ⟨h0, h1, h2, h3, h4⟩ := idx t
  blk_point [iblk, h1]

/-- At every grid point the third window's block is the whole array of center differences. -/
theorem block_centers (c : Dev nD) (t : Fin cfg0.N) (k : Fin 8) (a : Fin 64) (w : Fin 112) :
    iblk m c 2 t (ix3 k a w) = V m c main_v6 (ix3 k a w) := by
  obtain ⟨h0, h1, h2, h3, h4⟩ := idx t
  blk_point [iblk, h2]

/-- At every grid point the fourth window's block is the whole array of widths. -/
theorem block_widths (c : Dev nD) (t : Fin cfg0.N) (k : Fin 8) (a : Fin 64) (w : Fin 112) :
    iblk m c 3 t (ix3 k a w) = V m c main_v9 (ix3 k a w) := by
  obtain ⟨h0, h1, h2, h3, h4⟩ := idx t
  blk_point [iblk, h3]

/-- At grid point `t` the output window's block lies at image `t` of its array. -/
theorem step_out (t : Fin cfg0.N) (i : Fin 112) (a : Fin 64) (w : Fin 112) :
    ((View.whole main_v10).slice (win0_4.rect t)).emb (ix4 0 i a w) = ix4 ⟨t.val, t.isLt⟩ i a w := by
  obtain ⟨h0, h1, h2, h3, h4⟩ := idx t
  blk_point [h4]

/-- The blocks of all grid points together: the output array after the last one, the centers being real numbers. -/
theorem final (c : Dev nD) (hC : ∀ a k, ∃ r : ℝ, C m c (ix2 a k) = r) :
    (dats m 0 c).arrAt 4 (cfgs 0).N = out m c := by
  refine (dats m 0 c).arrAt_eq_of_covers 4 _ (by decide +kernel) fun t _ y => ?_
  blk_simp
  rw [after0_4, outsAt0]; frame_out
  idx_vars y
  obtain rfl : y0 = 0 := Subsingleton.elim _ _
  refine (block_at (iblk m c 1 t) (fun r => S m c (ix1 r)) (fun k => V m c main_v6 (ix3 (Fin.ofNat 8 k) y2 y3))
    (fun k => W m c (ix2 y2 (Fin.ofNat 8 k))) y1 y2 y3 ?_ ?_ ?_ ?_ ?_ ?_ ?_ ?_ ?_ ?_ ?_ ?_ ?_ ?_ ?_ ?_ ?_ ?_ ?_ ?_).trans ?_
  rotate_right
  · rw [step_out, block_pictures, pictures,
      show pic (iblk m c 1 t) y2 = fun i j => X m c (ix4 ⟨t.val, t.isLt⟩ i j y2) from
        funext fun i => funext fun j => (block_pictures m c t i y2 j).trans (pictures m c _ i y2 j)]
    exact congrArg (fun z => X m c (ix4 ⟨t.val, t.isLt⟩ y1 y3 y2) + Ideal.div 1 (1 + Ideal.exp z))
      (steps m c hC _ y2 y3)
  all_goals pointwise
  all_goals first | rw [block_weights] | rw [block_centers] | rw [block_widths, widths]
  all_goals rfl

end Cert.KernelIdeal.Array

end
-- ==== Proof.Result.lean ====
/-
  The kernel's run: it ends with the recalibrated pictures in its result, in the layout of its argument.
-/
module

public import proofs.«01_k».proof.Proof.Array

@[expose] public section

set_option maxRecDepth 16384

noncomputable section

namespace Cert.KernelIdeal.Result

open Idealize.ShloMosaic Idealize.ShloMosaic.TcCoe Idealize.SL.Sem
open Cert.KernelIdeal Cert.KernelIdeal.Gen Cert.Formula Cert.KernelIdeal.Array

variable (m : (ℓ : Loc nD τ sig) → Buf (Elt Ideal) ℓ)

/-- The recalibrated pictures, by image, row, column and channel. -/
def result (c : Dev nD) : FVec Ideal S16x112x112x64 .f32 := fun y =>
  recal (fun i j => X m c (ix4 (y 0) i j (y 3))) (fun r => S m c (ix1 r)) (fun k => C m c (ix2 (y 3) k))
    (fun k => W m c (ix2 (y 3) k)) (y 1) (y 2)

/-- The last host operation turns the windows' output array into the argument's layout. -/
theorem tail (c : Dev nD) (hC : ∀ a k, ∃ r : ℝ, C m c (ix2 a k) = r) :
    Pipeline.afterTail₀ cfgs (dats m) 0 (V0 m) [hostOps1] c main_v11 = result m c := by
  have h : Pipeline.withArrays spec0 c (V0 m c) (fun w => (dats m 0 c).arrAt w (cfgs 0).N) (Proc.tc.devRef main_v10) = out m c :=
    (Pipeline.withArrays_arr spec0 launch0.win.arr_inj c (V0 m c) (fun w => (dats m 0 c).arrAt w (cfgs 0).N) 4).trans (final m c hC)
  have e : Pipeline.afterTail₀ cfgs (dats m) 0 (V0 m) [hostOps1] c main_v11
      = transpose S16x112x112x64 [0, 1, 3, 2] (out m c) transposes_S16x112x64x112_S16x112x112x64_0_1_3_2 := by
    rw [← h]
    simp only [Pipeline.afterTail₀, hostOps1, List.flatten_cons, List.flatten_nil, List.cons_append, List.nil_append]
    after_results_simp
  rw [e]
  funext y
  idx_vars y
  pointwise
  rfl

/-- Every run of the kernel from finite centers ends with the recalibrated pictures, the arguments as they were. -/
theorem run (ρ : Dev nD → PrngReg) (hC : ∀ c a k, ∃ r : ℝ, C m c (ix2 a k) = r) :
    θ_run defs (onTc (τ := τ) (main (F := Ideal))) ⟨m, fun _ => 0, ρ⟩ (fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v11 (Pipeline.mem_restRefs_of main_v11 (by decide) (by decide))).trans
      (tail m c (hC c)), h.2 c⟩) (θ_run_and (run_main m ρ) (unchanged m ρ))

end Cert.KernelIdeal.Result

end
-- ==== Proof.BoxFilter.lean ====
/-
  The host's sum over a sliding square, read at an index: the window sum over the rows of the window sums over the columns.
-/
module

public import proofs.«01_k».proof.Proof.Windows
public import Idealize.ShloMosaic.Lib.Pointwise

@[expose] public section

noncomputable section

namespace Cert.BoxFilter

open Idealize.ShloMosaic Cert.Windows

/-- Adding a list of values to `v` one by one adds their sum. -/
theorem foldl_add {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- Two steps that agree everywhere lead from one value to one value. -/
theorem foldl_congr {ι α : Type} (f g : α → ι → α) (h : ∀ s n, f s n = g s n) (l : List ι) (v : α) : l.foldl f v = l.foldl g v :=
  congrArg (fun k => List.foldl k v l) (funext fun s => funext fun n => h s n)

/-- What one place of the square contributes: the value it lies on, or zero outside the picture. -/
theorem place {B H K C : ℕ} (r : ℕ) (x : FVec Ideal ⟨4, ![B, H, K, C]⟩ .f32) (b : Fin B) (i : Fin H) (j : Fin K) (a : Fin C)
    (d e : ℕ) (p : Fin 4 → ℕ)
    {_ : Decidable (∀ k : Fin 4, (![0, r, r, 0] : Fin 4 → ℕ) k ≤ p k ∧ p k - (![0, r, r, 0] : Fin 4 → ℕ) k < (![B, H, K, C] : Fin 4 → ℕ) k)}
    (h0 : p 0 = b) (h1 : p 1 = i + d) (h2 : p 2 = j + e) (h3 : p 3 = a) :
    (if hin : ∀ k : Fin 4, (![0, r, r, 0] : Fin 4 → ℕ) k ≤ p k ∧ p k - (![0, r, r, 0] : Fin 4 → ℕ) k < (![B, H, K, C] : Fin 4 → ℕ) k
        then x (fun k => ⟨p k - (![0, r, r, 0] : Fin 4 → ℕ) k, (hin k).2⟩) else (0 : EReal))
      = zpad r (fun i' => zpad r (fun j' => x (ix4 b i' j' a)) (j + e)) (i + d) := by
  unfold zpad
  by_cases hin : ∀ k : Fin 4, (![0, r, r, 0] : Fin 4 → ℕ) k ≤ p k ∧ p k - (![0, r, r, 0] : Fin 4 → ℕ) k < (![B, H, K, C] : Fin 4 → ℕ) k
  · have g1 : r ≤ p 1 ∧ p 1 - r < H := hin 1
    have g2 : r ≤ p 2 ∧ p 2 - r < K := hin 2
    rw [dif_pos hin, dif_neg (by omega), dif_pos (by omega)]
    dsimp only
    rw [dif_neg (by omega), dif_pos (by omega)]
    refine congrArg x (funext fun k => Fin.ext ?_)
    match k with
    | ⟨0, _⟩ => exact h0
    | ⟨1, _⟩ => exact congrArg (· - r) h1
    | ⟨2, _⟩ => exact congrArg (· - r) h2
    | ⟨3, _⟩ => exact h3
  · rw [dif_neg hin]
    have g : ¬((r ≤ p 1 ∧ p 1 - r < H) ∧ (r ≤ p 2 ∧ p 2 - r < K)) := fun g => hin fun k => by
      match k with
      | ⟨0, _⟩ => exact ⟨Nat.zero_le _, by show p 0 - 0 < B; omega⟩
      | ⟨1, _⟩ => exact g.1
      | ⟨2, _⟩ => exact g.2
      | ⟨3, _⟩ => exact ⟨Nat.zero_le _, by show p 3 - 0 < C; omega⟩
    split_ifs <;> first | rfl | (exfalso; omega)

/-- The host's window sum with a square of radius `r` over the rows and columns, nothing added at the start. -/
theorem window_at {B H K C : ℕ} (r : ℕ) (x : FVec Ideal ⟨4, ![B, H, K, C]⟩ .f32) (init : FVec Ideal ⟨0, ![]⟩ .f32)
    (hinit : ∀ y, init y = (0 : EReal))
    (h : Shape.ReduceWindows ⟨4, ![B, H, K, C]⟩ ![1, 2 * r + 1, 2 * r + 1, 1] ![1, 1, 1, 1] ![0, r, r, 0] ![0, r, r, 0]
      ⟨4, ![B, H, K, C]⟩) (hu : 0 < Shape.numel ⟨0, ![]⟩) (b : Fin B) (i : Fin H) (j : Fin K) (a : Fin C) :
    Host.reduceWindowAdd (F := Ideal) ![1, 2 * r + 1, 2 * r + 1, 1] ![1, 1, 1, 1] ![0, r, r, 0] ![0, r, r, 0] x init h hu
        (ix4 b i j a) = win r (fun i' => win r (fun j' => x (ix4 b i' j' a)) j) i := by
  let W : Shape := ⟨4, ![1, 2 * r + 1, 2 * r + 1, 1]⟩
  let G : W.Idx → EReal := fun q => zpad r (fun i' => zpad r (fun j' => x (ix4 b i' j' a)) (j + (q 2).val)) (i + (q 1).val)
  have hv : init (Shape.Idx.first hu) = (0 : EReal) := hinit _
  have hfold : Host.reduceWindowAdd (F := Ideal) ![1, 2 * r + 1, 2 * r + 1, 1] ![1, 1, 1, 1] ![0, r, r, 0] ![0, r, r, 0]
      x init h hu (ix4 b i j a) = (List.finRange W.numel).foldl (fun s n => s + G (W.rowMajor.symm n)) 0 := by
    unfold Host.reduceWindowAdd
    change Ideal.hostReduceWindowAdd _ _ _ _ _ _ _ _ = _
    unfold Ideal.hostReduceWindowAdd Host.reduceWindow
    rw [hv]
    refine foldl_congr _ _ (fun s n => ?_) _ _
    have z0 : (W.rowMajor.symm n 0).val = 0 := Nat.lt_one_iff.1 (W.rowMajor.symm n 0).isLt
    have z3 : (W.rowMajor.symm n 3).val = 0 := Nat.lt_one_iff.1 (W.rowMajor.symm n 3).isLt
    refine congrArg (s + ·) (place r x b i j a _ _ _ ?_ ?_ ?_ ?_)
    · show b.val * 1 + (W.rowMajor.symm n 0).val = b; omega
    · show i.val * 1 + (W.rowMajor.symm n 1).val = _; omega
    · show j.val * 1 + (W.rowMajor.symm n 2).val = _; omega
    · show a.val * 1 + (W.rowMajor.symm n 3).val = a; omega
  rw [hfold, foldl_add, zero_add, ← Fin.sum_univ_def, Equiv.sum_comp W.rowMajor.symm G, sum_idx4, win_win, Fin.sum_univ_one,
    Finset.sum_range]
  refine Finset.sum_congr rfl fun d _ => ?_
  rw [Finset.sum_range]
  refine Finset.sum_congr rfl fun e _ => ?_
  rw [Fin.sum_univ_one]
  rfl

end Cert.BoxFilter

end
-- ==== Proof.Reference.lean ====
/-
  What the reference computes, read at an index: the recalibrated value of the channel's picture.
-/
module

public import proofs.«01_k».proof.Proof.Gen.ReferenceIdeal.Run
public import proofs.«01_k».proof.Proof.BoxFilter
public import proofs.«01_k».proof.Proof.Formula

@[expose] public section

set_option maxRecDepth 16384

noncomputable section

namespace Cert.ReferenceIdeal.Recal

open Idealize.ShloMosaic Idealize.ShloMosaic.TcCoe Idealize.SL.Sem
open Cert.ReferenceIdeal Cert.ReferenceIdeal.Gen Cert.Formula Cert.Windows Cert.BoxFilter

variable (m : (ℓ : Loc nD τ sig) → Buf (Elt Ideal) ℓ)

/-- The window sum of radius `r` of the local measures is the sum over the square of that radius. -/
theorem box_at (r : ℕ) {w : ℕ} (hw : w = 2 * r + 1) (X : FVec Ideal S16x112x112x64 .f32)
    (h : S16x112x112x64.ReduceWindows ![1, w, w, 1] ![1, 1, 1, 1] ![0, r, r, 0] ![0, r, r, 0] S16x112x112x64)
    (b : Fin 16) (i j : Fin 112) (a : Fin 64) :
    Host.reduceWindowAdd (F := Ideal) ![1, w, w, 1] ![1, 1, 1, 1] ![0, r, r, 0] ![0, r, r, 0]
        (addf (Host.absf X) (broadcastInDim S16x112x112x64 ![] bcast_S_S16x112x112x64 (constant S_ .f32 0x358637BD#32)))
        (broadcastInDim S_ ![] bcast_S_S_ (constant S_ .f32 0x00000000#32)) h h_S_ (ix4 b i j a)
      = box (fun i' j' => X (ix4 b i' j' a)) r i j := by
  subst hw
  refine (window_at r _ _ (fun y => ?_) h h_S_ b i j a).trans ?_
  · pointwise
  · unfold box
    refine congrArg (fun f => win r f (i : ℕ)) (funext fun i' => congrArg (fun f => win r f (j : ℕ)) (funext fun j' => ?_))
    pointwise [mass]
    rfl

/-- The four sums stacked one above the other: layer `x` holds the sum of radius `x + 1`. -/
theorem ladder (f : Fin 112 → Fin 112 → EReal) (i j : Fin 112) (x : Fin 4) :
    (if _ : (x : ℕ) < 1 then Ideal.log (box f 1 i j)
      else if _ : (x : ℕ) - 1 < 1 then Ideal.log (box f 2 i j)
      else if _ : (x : ℕ) - 1 - 1 < 1 then Ideal.log (box f 3 i j) else Ideal.log (box f 4 i j))
      = Ideal.log (box f (x + 1) i j) := by
  fin_cases x <;> rfl

/-- The reference's result at image `b`, row `i`, column `j`, channel `a`. -/
theorem value (c : Dev nD) (b : Fin 16) (i j : Fin 112) (a : Fin 64) :
    Value.res_out0 (F := Ideal) m c (ix4 b i j a)
      = recal (fun i' j' => m ((c : Thread nD τ).loc main_arg0) (ix4 b i' j' a))
          (fun r => m ((c : Thread nD τ).loc main_arg1) (ix1 r))
          (fun k => m ((c : Thread nD τ).loc main_arg2) (ix2 a k))
          (fun k => m ((c : Thread nD τ).loc main_arg3) (ix2 a k)) i j := by
  unfold Value.res_out0 Value.res_main_v40
  pointwise
  rw [box_at 1 rfl, box_at 2 rfl, box_at 3 rfl, box_at 4 rfl]
  simp only [ladder]
  rfl

end Cert.ReferenceIdeal.Recal

end
-- ==== Proof.Centers.lean ====
/-
  What the precondition says: every center is a real number.
-/
module

public import proofs.«01_k».proof.Pre_finite_centers
public import Idealize.ShloMosaic.Lib.Pointwise
public import Idealize.ShloMosaic.Lib.ReduceAll

@[expose] public section

noncomputable section

namespace Cert.Centers

open Idealize.ShloMosaic Cert.Pre_finite_centers

/-- The shape relations of the precondition's operations. -/
theorem facts : Facts := ⟨by decide, by decide, by decide⟩

/-- The word of the constant that the centers are compared with denotes plus infinity. -/
theorem ofBits_infinity : Ideal.ofBits .f32 0x7F800000#32 = ⊤ := by simp [Ideal.ofBits, Ideal.ieee]

/-- A value whose size lies below plus infinity is a real number. -/
theorem real_of_size_lt {x : EReal} (h : max x (-x) < ⊤) : ∃ r : ℝ, x = r := by
  induction x with
  | bot => simp at h
  | top => simp at h
  | coe r => exact ⟨r, rfl⟩

/-- Where the precondition holds, every center is a real number. -/
theorem real_of_pre [Facts] (x0 : FVec Ideal S16x112x112x64 .f32) (x1 : FVec Ideal S4 .f32) (x2 x3 : FVec Ideal S64x8 .f32)
    (h : fn (F := Ideal) x0 x1 x2 x3 = fun _ => 1#1) (a : Fin 64) (k : Fin 8) : ∃ r : ℝ, x2 (ix2 a k) = r := by
  have : Subsingleton S_.Idx := ⟨fun p q => funext fun e => e.elim0⟩
  have e := Host.reduce_andi_all _ _ _ _ ix0 (congrFun h ix0) (ix2 a k)
  have e' : Ideal.cmp .olt (max (x2 (ix2 a k)) (-x2 (ix2 a k))) (Ideal.ofBits .f32 0x7F800000#32) = 1#1 := e
  rw [ofBits_infinity] at e'
  refine real_of_size_lt ?_
  by_contra hn
  simp [Ideal.cmp, hn] at e'

end Cert.Centers

end
-- ==== Proof.lean ====
/-
  The claims about the recalibration kernel and its reference, put together from the modules beside this file: what a block
  computes (`Block`), what the kernel's arrays hold (`Array`, `Result`), what the reference computes (`Reference`), and what
  the precondition says (`Centers`).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import proofs.«01_k».proof.Proof.Reference
public import proofs.«01_k».proof.Proof.Centers
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference ends with its arguments unchanged and every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread _ Cert.ReferenceIdeal.τ).loc Cert.ReferenceIdeal.main_arg0) = m (c.tc.loc Cert.ReferenceIdeal.main_arg0)
        ∧ r.2.mem ((c.tc : Thread _ Cert.ReferenceIdeal.τ).loc Cert.ReferenceIdeal.main_arg1) = m (c.tc.loc Cert.ReferenceIdeal.main_arg1)
        ∧ r.2.mem ((c.tc : Thread _ Cert.ReferenceIdeal.τ).loc Cert.ReferenceIdeal.main_arg2) = m (c.tc.loc Cert.ReferenceIdeal.main_arg2)
        ∧ r.2.mem ((c.tc : Thread _ Cert.ReferenceIdeal.τ).loc Cert.ReferenceIdeal.main_arg3) = m (c.tc.loc Cert.ReferenceIdeal.main_arg3))
        ∧ r.2.sem = fun _ => 0) :=
  (θ_run Cert.ReferenceIdeal.defs _ _).mono
    (fun r h => ⟨fun c => (h c).2, sem_eq_zero_of_no_sems (by decide) r.2⟩)
    (Cert.ReferenceIdeal.Value.run (F := Ideal) m ρ)

/-- The two constants that the ideal kernel names are the logarithm of two and one over it. -/
theorem preserves : preserves_Kernel_KernelIdeal :=
  ⟨IdealRules.named_const.statement Cert.KernelIdeal.κ "ln2" .f32 0x3F317218#32 _ rfl,
    IdealRules.named_const.statement Cert.KernelIdeal.κ "inv_ln2" .f32 0x3FB8AA3B#32 _ rfl⟩

/-- Where the arguments agree, the reference's term is the kernel's result. -/
theorem reference_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev 1)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2))
    (h3 : m' (c.tc.loc Cert.ReferenceIdeal.main_arg3) = m (c.tc.loc Cert.KernelIdeal.main_arg3)) :
    Cert.ReferenceIdeal.Value.res_out0 (F := Ideal) m' c = Cert.KernelIdeal.Result.result m c := by
  funext y
  idx_vars y
  rw [Cert.ReferenceIdeal.Recal.value, h0, h1, h2, h3]
  rfl

/-- The kernel and the reference end with one result. -/
theorem algebraic [Cert.Pre_finite_centers.Facts] : algebraic_KernelIdeal_ReferenceIdeal_pre_finite_centers :=
  fun m ρ m' ρ' hpre hargs => ⟨fun c => Cert.KernelIdeal.Result.result m c,
    Cert.KernelIdeal.Result.run m ρ fun c => Cert.Centers.real_of_pre _ _ _ _ (hpre c),
    (θ_run Cert.ReferenceIdeal.defs _ _).mono
      (fun _ h c => ⟨(h c).1.trans (reference_eq m m' c (hargs c).1 (hargs c).2.1 (hargs c).2.2.1 (hargs c).2.2.2), (h c).2⟩)
      (Cert.ReferenceIdeal.Value.run (F := Ideal) m' ρ')⟩

/-- The five claims. -/
theorem claim : Cert.Claim :=
  ⟨Cert.Kernel.Gen.facts, Cert.KernelIdeal.Gen.facts, Cert.ReferenceIdeal.Gen.facts, Cert.Centers.facts,
    fun m ρ _ => Cert.Kernel.Gen.frame m ρ, fun m ρ _ => Cert.KernelIdeal.Gen.frame m ρ,
    fun m ρ _ => Cert.KernelIdeal.Gen.frame m ρ, fun m ρ _ => reference_frame m ρ, fun m ρ _ => reference_frame m ρ,
    preserves, letI := Cert.Centers.facts; algebraic⟩

end Cert.Proof

end
